-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_top_logit [hPre_finite_top_logit : Cert.Pre_finite_top_logit.Facts] (m : (ℓ : Loc Cert.KernelIdeal.nD Cert.KernelIdeal.τ Cert.KernelIdeal.sig) → Buf (Elt Ideal) ℓ) : Prop :=
  ∀ c : Dev Cert.KernelIdeal.nD,
    (Cert.Pre_finite_top_logit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_top_logit [hPre_finite_top_logit : Cert.Pre_finite_top_logit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_top_logit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_top_logit [hKernelIdeal : Cert.KernelIdeal.Facts] [hPre_finite_top_logit : Cert.Pre_finite_top_logit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_top_logit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_top_logit [hReferenceIdeal : Cert.ReferenceIdeal.Facts] [hPre_finite_top_logit : Cert.Pre_finite_top_logit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_top_logit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_top_logit [hKernelIdeal : Cert.KernelIdeal.Facts] [hReferenceIdeal : Cert.ReferenceIdeal.Facts] [hPre_finite_top_logit : Cert.Pre_finite_top_logit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_top_logit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_top_logit : Cert.Pre_finite_top_logit.Facts),
    quiescent_Kernel (hKernel := hKernel)
    ∧ quiescent_KernelIdeal (hKernelIdeal := hKernelIdeal)
    ∧ quiescent_KernelIdeal_pre_finite_top_logit (hKernelIdeal := hKernelIdeal) (hPre_finite_top_logit := hPre_finite_top_logit)
    ∧ quiescent_ReferenceIdeal (hReferenceIdeal := hReferenceIdeal)
    ∧ quiescent_ReferenceIdeal_pre_finite_top_logit (hReferenceIdeal := hReferenceIdeal) (hPre_finite_top_logit := hPre_finite_top_logit)
    ∧ preserves_Kernel_KernelIdeal
    ∧ algebraic_KernelIdeal_ReferenceIdeal_pre_finite_top_logit (hKernelIdeal := hKernelIdeal) (hReferenceIdeal := hReferenceIdeal) (hPre_finite_top_logit := hPre_finite_top_logit)
-- ==== Pre_finite_top_logit.lean ====
abbrev S4x4096x4096 : Shape := ⟨3, ![4, 4096, 4096]⟩
abbrev S8x4096 : Shape := ⟨2, ![8, 4096]⟩
abbrev S8x8x4096 : Shape := ⟨3, ![8, 8, 4096]⟩
abbrev S16384x4096 : Shape := ⟨2, ![16384, 4096]⟩
abbrev S4096x8 : Shape := ⟨2, ![4096, 8]⟩
abbrev S16384x8 : Shape := ⟨2, ![16384, 8]⟩
abbrev S_ : Shape := ⟨0, ![]⟩
abbrev S16384 : Shape := ⟨1, ![16384]⟩

class Facts : Prop where
  shapeCasts_S4x4096x4096_S16384x4096 : S4x4096x4096.ShapeCasts S16384x4096
  transposes_S8x4096_S4096x8_1_0 : S8x4096.Transposes [1, 0] S4096x8
  reducesTo_S16384x8_S16384_d1 : S16384x8.ReducesTo [1] S16384
  h_S_ : 0 < S_.numel
  bcast_S_S16384 : S_.BroadcastsInDim S16384 (![] : Fin 0 → Fin S16384.rank)
  reducesTo_S16384_S_d0 : S16384.ReducesTo [0] S_
  dot_S16384x4096_S4096x8_S16384x8_1_0_0_1_n_n_wf : DotDims.WF S16384x4096 S4096x8 S16384x8 [1] [0] [0] [1] [] []

variable [Facts]

def dot_S16384x4096_S4096x8_S16384x8_1_0_0_1_n_n : DotDims S16384x4096 S4096x8 S16384x8 where
  lhsContracting := [1]
  rhsContracting := [0]
  lhsNonContracting := [0]
  rhsNonContracting := [1]
  lhsBatch := []
  rhsBatch := []
  wf := dot_S16384x4096_S4096x8_S16384x8_1_0_0_1_n_n_wf
def fn {F : FTy → Type} [FloatOps F] (main_arg0 : FVec F S4x4096x4096 .f32) (main_arg1 : FVec F S8x4096 .f32) (main_arg2 : FVec F S8x8x4096 .f32) : IVec S_ 1 :=
  let main_v0 : FVec F S16384x4096 .f32 := shapeCast S16384x4096 main_arg0 shapeCasts_S4x4096x4096_S16384x4096
  let main_v1 : FVec F S4096x8 .f32 := (transpose S4096x8 [1, 0] · transposes_S8x4096_S4096x8_1_0) main_arg1
  let main_v2 : FVec F S16384x8 .f32 := (fun l r => Host.dotGeneral dot_S16384x4096_S4096x8_S16384x8_1_0_0_1_n_n none l r) main_v0 main_v1
  let main_cst : FVec F S_ .f32 := constant S_ .f32 0xFF800000#32
  let main_v3 : FVec F S16384 .f32 := (fun x v => Host.reduce FloatOps.maximumf x v reducesTo_S16384x8_S16384_d1 h_S_) main_v2 main_cst
  let main_v4 : FVec F S16384 .f32 := Host.absf main_v3
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c : IVec S_ 1 := constantI S_ 1 1#1
  let main_v7 : IVec S_ 1 := (fun x v => Host.reduce IntOp.andi x v reducesTo_S16384_S_d0 h_S_) main_v6 main_c
  main_v7
-- ==== Kernel.lean ====
abbrev S4x4096x4096 : Shape := ⟨3, ![4, 4096, 4096]⟩
abbrev S8x4096 : Shape := ⟨2, ![8, 4096]⟩
abbrev S8x8x4096 : Shape := ⟨3, ![8, 8, 4096]⟩
abbrev S16384x4096 : Shape := ⟨2, ![16384, 4096]⟩
abbrev S64x4096 : Shape := ⟨2, ![64, 4096]⟩
abbrev S72x4096 : Shape := ⟨2, ![72, 4096]⟩
abbrev S4096x72 : Shape := ⟨2, ![4096, 72]⟩
abbrev S2x8192x64 : Shape := ⟨3, ![2, 8192, 64]⟩
abbrev S512x4096 : Shape := ⟨2, ![512, 4096]⟩
abbrev S2x512x64 : Shape := ⟨3, ![2, 512, 64]⟩
abbrev S512x72 : Shape := ⟨2, ![512, 72]⟩
abbrev S512 : Shape := ⟨1, ![512]⟩
abbrev S512x1 : Shape := ⟨2, ![512, 1]⟩
abbrev S512x64 : Shape := ⟨2, ![512, 64]⟩
abbrev S1x512x64 : Shape := ⟨3, ![1, 512, 64]⟩
abbrev S4x4096x64 : Shape := ⟨3, ![4, 4096, 64]⟩

abbrev nBuf : Space → Nat
  | .hbm => 10
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S8x4096, .f32⟩
  | .hbm, ⟨2, _⟩ => ⟨S8x8x4096, .f32⟩
  | .hbm, ⟨3, _⟩ => ⟨S16384x4096, .f32⟩
  | .hbm, ⟨4, _⟩ => ⟨S64x4096, .f32⟩
  | .hbm, ⟨5, _⟩ => ⟨S72x4096, .f32⟩
  | .hbm, ⟨6, _⟩ => ⟨S4096x72, .f32⟩
  | .hbm, ⟨7, _⟩ => ⟨S4096x72, .bf16⟩
  | .hbm, ⟨8, _⟩ => ⟨S2x8192x64, .f32⟩
  | .hbm, ⟨9, _⟩ => ⟨S4x4096x64, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S4096x72, .bf16⟩
  | .local _ .vmem, ⟨5, _⟩ => ⟨S2x512x64, .f32⟩
  | .local _ .vmem, ⟨6, _⟩ => ⟨S2x512x64, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x72 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x4096x4096 : Shape := ⟨3, ![4, 4096, 4096]⟩
abbrev S8x4096 : Shape := ⟨2, ![8, 4096]⟩
abbrev S8x8x4096 : Shape := ⟨3, ![8, 8, 4096]⟩
abbrev S16384x4096 : Shape := ⟨2, ![16384, 4096]⟩
abbrev S4096x8 : Shape := ⟨2, ![4096, 8]⟩
abbrev S16384x8 : Shape := ⟨2, ![16384, 8]⟩
abbrev S_ : Shape := ⟨0, ![]⟩
abbrev S16384 : Shape := ⟨1, ![16384]⟩
abbrev S16384x1 : Shape := ⟨2, ![16384, 1]⟩
abbrev S16384x64 : Shape := ⟨2, ![16384, 64]⟩
abbrev S1x8x4096 : Shape := ⟨3, ![1, 8, 4096]⟩
abbrev S1 : Shape := ⟨1, ![1]⟩
abbrev S4x4096x64 : Shape := ⟨3, ![4, 4096, 64]⟩

abbrev nBuf : Space → Nat
  | .hbm => 148
  | .vmem => 0
  | .smem => 0
  | _ => 0

abbrev hbmTy0_0 (i : Nat) : BufTy := match i % 128 with
  | 0 => ⟨S4x4096x4096, .f32⟩
  | 1 => ⟨S8x4096, .f32⟩
  | 2 => ⟨S8x8x4096, .f32⟩
  | 3 => ⟨S16384x4096, .f32⟩
  | 4 => ⟨S4096x8, .f32⟩
  | 5 => ⟨S16384x8, .f32⟩
  | 6 => ⟨S_, .f32⟩
  | 7 => ⟨S16384, .f32⟩
  | 8 => ⟨S_, .f32⟩
  | 9 => ⟨S16384, .f32⟩
  | 10 => ⟨S16384, .f32⟩
  | 11 => ⟨S16384x1, .f32⟩
  | 12 => ⟨S16384x8, .f32⟩
  | 13 => ⟨S16384x8, .f32⟩
  | 14 => ⟨S16384x8, .f32⟩
  | 15 => ⟨S_, .f32⟩
  | 16 => ⟨S16384, .f32⟩
  | 17 => ⟨S16384x1, .f32⟩
  | 18 => ⟨S16384x8, .f32⟩
  | 19 => ⟨S16384x8, .f32⟩
  | 20 => ⟨S16384x8, .i32⟩
  | 21 => ⟨S_, .f32⟩
  | 22 => ⟨S_, .i32⟩
  | 23 => ⟨S16384, .f32⟩
  | 24 => ⟨S16384, .i32⟩
  | 25 => ⟨S_, .f32⟩
  | 26 => ⟨S16384x64, .f32⟩
  | 27 => ⟨S1x8x4096, .f32⟩
  | 28 => ⟨S8x4096, .f32⟩
  | 29 => ⟨S4096x8, .f32⟩
  | 30 => ⟨S16384x8, .f32⟩
  | 31 => ⟨S_, .i32⟩
  | 32 => ⟨S16384, .i32⟩
  | 33 => ⟨S16384, .i1⟩
  | 34 => ⟨S16384x1, .i1⟩
  | 35 => ⟨S_, .f32⟩
  | 36 => ⟨S16384x8, .i1⟩
  | 37 => ⟨S16384x8, .f32⟩
  | 38 => ⟨S16384x8, .f32⟩
  | 39 => ⟨S_, .i32⟩
  | 40 => ⟨S1, .i32⟩
  | 41 => ⟨S16384x64, .f32⟩
  | 42 => ⟨S1x8x4096, .f32⟩
  | 43 => ⟨S8x4096, .f32⟩
  | 44 => ⟨S4096x8, .f32⟩
  | 45 => ⟨S16384x8, .f32⟩
  | 46 => ⟨S_, .i32⟩
  | 47 => ⟨S16384, .i32⟩
  | 48 => ⟨S16384, .i1⟩
  | 49 => ⟨S16384x1, .i1⟩
  | 50 => ⟨S_, .f32⟩
  | 51 => ⟨S16384x8, .i1⟩
  | 52 => ⟨S16384x8, .f32⟩
  | 53 => ⟨S16384x8, .f32⟩
  | 54 => ⟨S_, .i32⟩
  | 55 => ⟨S1, .i32⟩
  | 56 => ⟨S16384x64, .f32⟩
  | 57 => ⟨S1x8x4096, .f32⟩
  | 58 => ⟨S8x4096, .f32⟩
  | 59 => ⟨S4096x8, .f32⟩
  | 60 => ⟨S16384x8, .f32⟩
  | 61 => ⟨S_, .i32⟩
  | 62 => ⟨S16384, .i32⟩
  | 63 => ⟨S16384, .i1⟩
  | 64 => ⟨S16384x1, .i1⟩
  | 65 => ⟨S_, .f32⟩
  | 66 => ⟨S16384x8, .i1⟩
  | 67 => ⟨S16384x8, .f32⟩
  | 68 => ⟨S16384x8, .f32⟩
  | 69 => ⟨S_, .i32⟩
  | 70 => ⟨S1, .i32⟩
  | 71 => ⟨S16384x64, .f32⟩
  | 72 => ⟨S1x8x4096, .f32⟩
  | 73 => ⟨S8x4096, .f32⟩
  | 74 => ⟨S4096x8, .f32⟩
  | 75 => ⟨S16384x8, .f32⟩
  | 76 => ⟨S_, .i32⟩
  | 77 => ⟨S16384, .i32⟩
  | 78 => ⟨S16384, .i1⟩
  | 79 => ⟨S16384x1, .i1⟩
  | 80 => ⟨S_, .f32⟩
  | 81 => ⟨S16384x8, .i1⟩
  | 82 => ⟨S16384x8, .f32⟩
  | 83 => ⟨S16384x8, .f32⟩
  | 84 => ⟨S_, .i32⟩
  | 85 => ⟨S1, .i32⟩
  | 86 => ⟨S16384x64, .f32⟩
  | 87 => ⟨S1x8x4096, .f32⟩
  | 88 => ⟨S8x4096, .f32⟩
  | 89 => ⟨S4096x8, .f32⟩
  | 90 => ⟨S16384x8, .f32⟩
  | 91 => ⟨S_, .i32⟩
  | 92 => ⟨S16384, .i32⟩
  | 93 => ⟨S16384, .i1⟩
  | 94 => ⟨S16384x1, .i1⟩
  | 95 => ⟨S_, .f32⟩
  | 96 => ⟨S16384x8, .i1⟩
  | 97 => ⟨S16384x8, .f32⟩
  | 98 => ⟨S16384x8, .f32⟩
  | 99 => ⟨S_, .i32⟩
  | 100 => ⟨S1, .i32⟩
  | 101 => ⟨S16384x64, .f32⟩
  | 102 => ⟨S1x8x4096, .f32⟩
  | 103 => ⟨S8x4096, .f32⟩
  | 104 => ⟨S4096x8, .f32⟩
  | 105 => ⟨S16384x8, .f32⟩
  | 106 => ⟨S_, .i32⟩
  | 107 => ⟨S16384, .i32⟩
  | 108 => ⟨S16384, .i1⟩
  | 109 => ⟨S16384x1, .i1⟩
  | 110 => ⟨S_, .f32⟩
  | 111 => ⟨S16384x8, .i1⟩
  | 112 => ⟨S16384x8, .f32⟩
  | 113 => ⟨S16384x8, .f32⟩
  | 114 => ⟨S_, .i32⟩
  | 115 => ⟨S1, .i32⟩
  | 116 => ⟨S16384x64, .f32⟩
  | 117 => ⟨S1x8x4096, .f32⟩
  | 118 => ⟨S8x4096, .f32⟩
  | 119 => ⟨S4096x8, .f32⟩
  | 120 => ⟨S16384x8, .f32⟩
  | 121 => ⟨S_, .i32⟩
  | 122 => ⟨S16384, .i32⟩
  | 123 => ⟨S16384, .i1⟩
  | 124 => ⟨S16384x1, .i1⟩
  | 125 => ⟨S_, .f32⟩
  | 126 => ⟨S16384x8, .i1⟩
  | 127 => ⟨S16384x8, .f32⟩
  | _ => ⟨S4x4096x4096, .f32⟩

abbrev hbmTy0_1 (i : Nat) : BufTy := match i % 128 with
  | 0 => ⟨S16384x8, .f32⟩
  | 1 => ⟨S_, .i32⟩
  | 2 => ⟨S1, .i32⟩
  | 3 => ⟨S16384x64, .f32⟩
  | 4 => ⟨S1x8x4096, .f32⟩
  | 5 => ⟨S8x4096, .f32⟩
  | 6 => ⟨S4096x8, .f32⟩
  | 7 => ⟨S16384x8, .f32⟩
  | 8 => ⟨S_, .i32⟩
  | 9 => ⟨S16384, .i32⟩
  | 10 => ⟨S16384, .i1⟩
  | 11 => ⟨S16384x1, .i1⟩
  | 12 => ⟨S_, .f32⟩
  | 13 => ⟨S16384x8, .i1⟩
  | 14 => ⟨S16384x8, .f32⟩
  | 15 => ⟨S16384x8, .f32⟩
  | 16 => ⟨S_, .i32⟩
  | 17 => ⟨S1, .i32⟩
  | 18 => ⟨S16384x64, .f32⟩
  | 19 => ⟨S4x4096x64, .f32⟩
  | _ => ⟨S4x4096x4096, .f32⟩

abbrev hbmTy (i : Nat) : BufTy := match i / 128 with
  | 0 => hbmTy0_0 i
  | 1 => hbmTy0_1 i
  | _ => ⟨S4x4096x4096, .f32⟩

abbrev bufTy : (tb : Table) → Fin (tcTables nBuf tb) → BufTy
  | .hbm, ⟨i, _⟩ => hbmTy i
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_call2_v0 : Ref sig .tc := ⟨.hbm, 51, rfl⟩
abbrev main_call2_v1 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_call3_v0 : Ref sig .tc := ⟨.hbm, 66, rfl⟩
abbrev main_call3_v1 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_12 : Ref sig .tc := ⟨.hbm, 80, rfl⟩
abbrev main_call4_v0 : Ref sig .tc := ⟨.hbm, 81, rfl⟩
abbrev main_call4_v1 : Ref sig .tc := ⟨.hbm, 82, rfl⟩
abbrev main_v53 : Ref sig .tc := ⟨.hbm, 83, rfl⟩
abbrev main_c_13 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_14 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_15 : Ref sig .tc := ⟨.hbm, 95, rfl⟩
abbrev main_call5_v0 : Ref sig .tc := ⟨.hbm, 96, rfl⟩
abbrev main_call5_v1 : Ref sig .tc := ⟨.hbm, 97, rfl⟩
abbrev main_v63 : Ref sig .tc := ⟨.hbm, 98, rfl⟩
abbrev main_c_16 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c_17 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_18 : Ref sig .tc := ⟨.hbm, 110, rfl⟩
abbrev main_call6_v0 : Ref sig .tc := ⟨.hbm, 111, rfl⟩
abbrev main_call6_v1 : Ref sig .tc := ⟨.hbm, 112, rfl⟩
abbrev main_v73 : Ref sig .tc := ⟨.hbm, 113, rfl⟩
abbrev main_c_19 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_c_20 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_21 : Ref sig .tc := ⟨.hbm, 125, rfl⟩
abbrev main_call7_v0 : Ref sig .tc := ⟨.hbm, 126, rfl⟩
abbrev main_call7_v1 : Ref sig .tc := ⟨.hbm, 127, rfl⟩
abbrev main_v83 : Ref sig .tc := ⟨.hbm, 128, rfl⟩
abbrev main_c_22 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_c_23 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_24 : Ref sig .tc := ⟨.hbm, 140, rfl⟩
abbrev main_call8_v0 : Ref sig .tc := ⟨.hbm, 141, rfl⟩
abbrev main_call8_v1 : Ref sig .tc := ⟨.hbm, 142, rfl⟩
abbrev main_v93 : Ref sig .tc := ⟨.hbm, 143, rfl⟩
abbrev main_c_25 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩

abbrev nD : Nat := 1
abbrev τ : Topo := Topo.v7x

variable {F : FTy → Type} [FloatOps F]
-- ==== Proof.Choice.lean ====
module

public import Idealize.ShloMosaic.PureOps.Ideal.Laws
public import Idealize.ShloMosaic.Lib.SortNet.Extract

@[expose] public section

noncomputable section

/-! Which of finitely many extended reals is the first largest one, and three ways of finding it. -/

namespace Cert.Proof.Choice

open Idealize.ShloMosaic

/-- The word of minus infinity names the least extended real. -/
theorem bottom : Ideal.ofBits .f32 0xFF800000#32 = (⊥ : EReal) := by simp [Ideal.ofBits, Ideal.ieee]

/-- Position `c` holds a largest entry, and no earlier position does. -/
def IsFirst {n : ℕ} (x : Fin n → EReal) (c : Fin n) : Prop := ∀ d, x d < x c ∨ (x d = x c ∧ c ≤ d)

/-- There is at most one first largest position. -/
theorem IsFirst.unique {n : ℕ} {x : Fin n → EReal} {c c' : Fin n} (h : IsFirst x c) (h' : IsFirst x c') : c = c' := by
  rcases h c' with a | ⟨a, b⟩ <;> rcases h' c with a' | ⟨a', b'⟩
  · exact absurd (a.trans a') (lt_irrefl _)
  · exact absurd (a' ▸ a) (lt_irrefl _)
  · exact absurd (a ▸ a') (lt_irrefl _)
  · exact le_antisymm b b'

/-- Every entry is at most the one at the first largest position. -/
theorem IsFirst.le {n : ℕ} {x : Fin n → EReal} {c : Fin n} (h : IsFirst x c) (d : Fin n) : x d ≤ x c := by
  rcases h d with a | ⟨a, _⟩
  · exact a.le
  · exact a.le

/-- Among at least one entry there is a first largest one. -/
theorem exists_first {n : ℕ} (x : Fin (n + 1) → EReal) : ∃ c, IsFirst x c := by
  obtain ⟨a, _, ha⟩ := Finset.exists_max_image Finset.univ x ⟨0, Finset.mem_univ _⟩
  obtain ⟨c, hc, hmin⟩ := Finset.exists_min_image (Finset.univ.filter fun d => x d = x a) id ⟨a, by simp⟩
  have hca : x c = x a := (Finset.mem_filter.1 hc).2
  refine ⟨c, fun d => ?_⟩
  rcases (ha d (Finset.mem_univ _)).lt_or_eq with h | h
  · exact Or.inl (hca ▸ h)
  · exact Or.inr ⟨h.trans hca.symm, hmin d (Finset.mem_filter.2 ⟨Finset.mem_univ _, h⟩)⟩

/-- The first largest position. -/
def first {n : ℕ} (x : Fin (n + 1) → EReal) : Fin (n + 1) := (exists_first x).choose

/-- The first largest position is one. -/
theorem isFirst_first {n : ℕ} (x : Fin (n + 1) → EReal) : IsFirst x (first x) := (exists_first x).choose_spec

/-- A first largest position is the first largest position. -/
theorem first_eq {n : ℕ} {x : Fin (n + 1) → EReal} {c : Fin (n + 1)} (h : IsFirst x c) : first x = c := (isFirst_first x).unique h

/-- A map that keeps the order below the first largest entry keeps its position. -/
theorem IsFirst.map {n : ℕ} {x y : Fin n → EReal} {c : Fin n} (h : IsFirst x c) (heq : ∀ d, x d = x c → y d = y c)
    (hlt : ∀ d, x d < x c → y d < y c) : IsFirst y c := fun d =>
  (h d).imp (hlt d) fun ⟨a, b⟩ => ⟨heq d a, b⟩

/-- The largest entry, as a running maximum computes it. -/
theorem fold_max_eq {ι : Type} (s : Finset ι) (x : ι → EReal) (z v : EReal) (hz : z ≤ v) (hle : ∀ i ∈ s, x i ≤ v)
    (hv : z = v ∨ ∃ i ∈ s, x i = v) : s.fold max z x = v := by
  apply le_antisymm
  · exact (Finset.fold_max_le v).2 ⟨hz, hle⟩
  · exact (Finset.le_fold_max v).2 (hv.imp (fun e => e.ge) fun ⟨i, hi, e⟩ => ⟨i, hi, e.ge⟩)

/-- The running maximum of all entries from the least value is the entry at the first largest position. -/
theorem fold_max_first {n : ℕ} (x : Fin (n + 1) → EReal) : Finset.univ.fold max ⊥ x = x (first x) :=
  fold_max_eq _ _ _ _ bot_le (fun i _ => (isFirst_first x).le i) (Or.inr ⟨_, Finset.mem_univ _, rfl⟩)

/-! ### Through the softmax -/

/-- The exponential of a shifted entry at most the shift is a real number, not negative. -/
theorem exp_shift {a : EReal} {m : ℝ} (h : a ≤ (m : EReal)) :
    ∃ r : ℝ, 0 ≤ r ∧ Ideal.exp (a - m) = (r : EReal) ∧ (a = m → r = 1) ∧ (a < m → r < 1) := by
  induction a with
  | bot => exact ⟨0, le_refl _, by rw [EReal.bot_sub]; rfl, fun e => absurd e (EReal.bot_lt_coe m).ne, fun _ => one_pos⟩
  | top => exact absurd h (not_le.2 (EReal.coe_lt_top m))
  | coe a =>
    refine ⟨Real.exp (a - m), (Real.exp_pos _).le, by rw [← EReal.coe_sub]; rfl, fun e => ?_, fun e => ?_⟩
    · rw [EReal.coe_eq_coe_iff.1 e, sub_self, Real.exp_zero]
    · rw [← Real.exp_zero]; exact Real.exp_lt_exp.2 (sub_neg.2 (EReal.coe_lt_coe_iff.1 e))

/-- A finite sum of real numbers is the same among the extended reals. -/
theorem coe_sum {ι : Type} [DecidableEq ι] (s : Finset ι) (r : ι → ℝ) : ((∑ k ∈ s, r k : ℝ) : EReal) = ∑ k ∈ s, (r k : EReal) := by
  induction s using Finset.induction_on with
  | empty => simp
  | insert a s has ih => rw [Finset.sum_insert has, Finset.sum_insert has, EReal.coe_add, ih]

/-- The softmax of entries whose largest is finite has its first largest position where the entries have theirs. -/
theorem isFirst_softmax {n : ℕ} {x : Fin n → EReal} {c : Fin n} (h : IsFirst x c) (m : ℝ) (hm : x c = (m : EReal)) :
    IsFirst (fun d => Ideal.div (Ideal.exp (x d - m)) (∑ k, Ideal.exp (x k - m))) c := by
  choose r hr0 hr hr1 hrlt using fun d => exp_shift (hm ▸ h.le d : x d ≤ (m : EReal))
  have hsum : (∑ k, Ideal.exp (x k - m)) = ((∑ k, r k : ℝ) : EReal) := by
    rw [coe_sum]
    exact Finset.sum_congr rfl fun k _ => hr k
  have hpos : 0 < ∑ k, r k :=
    Finset.sum_pos' (fun k _ => hr0 k) ⟨c, Finset.mem_univ _, by rw [hr1 c hm]; exact one_pos⟩
  have key : ∀ d, Ideal.div (Ideal.exp (x d - m)) (∑ k, Ideal.exp (x k - m)) = ((r d * (1 / ∑ k, r k) : ℝ) : EReal) := fun d => by
    rw [hsum, hr, Ideal.div_coe hpos.ne', ← EReal.coe_mul]
  refine h.map (fun d e => ?_) (fun d e => ?_)
  · simp only [key]
    rw [hr1 d (e.trans hm), hr1 c hm]
  · simp only [key]
    rw [EReal.coe_lt_coe_iff, hr1 c hm]
    exact mul_lt_mul_of_pos_right (hrlt d (hm ▸ e)) (one_div_pos.2 hpos)

/-! ### By two reductions: the largest value, then the least position holding it -/

/-- A running signed minimum is at most its start and every word met, and is one of them. -/
theorem fold_minsi_spec {ι : Type} [DecidableEq ι] {w : ℕ} (g : ι → BitVec w) (s : Finset ι) (z : BitVec w) :
    (∀ i ∈ s, (s.fold IntOp.minsi z g).toInt ≤ (g i).toInt) ∧ (s.fold IntOp.minsi z g = z ∨ ∃ i ∈ s, s.fold IntOp.minsi z g = g i) := by
  induction s using Finset.induction_on with
  | empty => exact ⟨fun i hi => absurd hi (Finset.notMem_empty i), Or.inl Finset.fold_empty⟩
  | insert a s has ih =>
    rw [Finset.fold_insert has]
    constructor
    · intro i hi
      rw [SortNet.toInt_minsi]
      rcases Finset.mem_insert.1 hi with rfl | hi
      · exact min_le_left _ _
      · exact (min_le_right _ _).trans (ih.1 i hi)
    · have hs : IntOp.minsi (g a) (s.fold IntOp.minsi z g) = g a ∨ IntOp.minsi (g a) (s.fold IntOp.minsi z g) = s.fold IntOp.minsi z g := by
        unfold IntOp.minsi; split
        · exact Or.inl rfl
        · exact Or.inr rfl
      rcases hs with e | e
      · exact Or.inr ⟨a, Finset.mem_insert_self _ _, e⟩
      · rw [e]
        exact ih.2.imp id fun ⟨i, hi, e⟩ => ⟨i, Finset.mem_insert_of_mem hi, e⟩

/-- A small number, read as a signed 32-bit word, is itself. -/
theorem toInt_small (k : ℕ) (h : k < 2 ^ 31) : (BitVec.ofNat 32 k).toInt = k := by
  rw [BitVec.toInt_eq_toNat_cond, BitVec.toNat_ofNat]
  omega

/-- Seventy-two values of which the last eight have a finite largest: with the others masked out, the least position holding
    the largest value is sixty-four past the first largest of the eight. -/
theorem masked_first (v : Fin 72 → EReal) (x : Fin 8 → EReal) (hxv : ∀ d : Fin 8, v ⟨64 + d.val, by omega⟩ = x d)
    (hfin : ⊥ < x (first x)) (M : EReal)
    (hM : M = Finset.univ.fold max ⊥ fun k : Fin 72 => if 64 ≤ k.val then v k else ⊥) :
    (Finset.univ.fold IntOp.minsi 2147483647#32 fun k : Fin 72 =>
        if (if 64 ≤ k.val then v k else ⊥) = M then BitVec.ofNat 32 k.val else 72#32)
      = BitVec.ofNat 32 (64 + (first x).val) := by
  have hf := isFirst_first x
  generalize first x = c at hf hfin ⊢
  have hv : ∀ k : Fin 72, ∀ hk : 64 ≤ k.val, v k = x ⟨k.val - 64, by omega⟩ := fun k hk => by
    rw [← hxv]; congr 1; apply Fin.ext; simp only; omega
  have hMc : M = x c := by
    rw [hM]
    refine fold_max_eq _ _ _ _ bot_le (fun k _ => ?_) (Or.inr ⟨⟨64 + c.val, by omega⟩, Finset.mem_univ _, ?_⟩)
    · split
      · next hk => rw [hv k hk]; exact hf.le _
      · exact bot_le
    · rw [if_pos (Nat.le_add_right _ _), hxv]
  subst hMc
  obtain ⟨h1, h2⟩ := fold_minsi_spec (fun k : Fin 72 => if (if 64 ≤ k.val then v k else ⊥) = x c then BitVec.ofNat 32 k.val else 72#32)
    Finset.univ 2147483647#32
  have hc := c.isLt
  apply BitVec.eq_of_toInt_eq
  rw [toInt_small _ (by omega)]
  apply le_antisymm
  · have := h1 ⟨64 + c.val, by omega⟩ (Finset.mem_univ _)
    simp only [Nat.le_add_right, if_true, hxv] at this
    rwa [toInt_small _ (by omega)] at this
  · rcases h2 with e | ⟨k, _, e⟩
    · rw [e]; have : (2147483647#32 : BitVec 32).toInt = 2147483647 := by decide
      omega
    · rw [e]
      by_cases hk : (if 64 ≤ k.val then v k else ⊥) = x c
      · rw [if_pos hk, toInt_small _ (by omega)]
        by_cases h64 : 64 ≤ k.val
        · rw [if_pos h64, hv k h64] at hk
          rcases hf ⟨k.val - 64, by omega⟩ with a | ⟨_, b⟩
          · exact absurd hk a.ne
          · have : c.val ≤ k.val - 64 := b
            omega
        · rw [if_neg h64] at hk
          exact absurd hk hfin.ne
      · rw [if_neg hk]
        have : (72#32 : BitVec 32).toInt = 72 := by decide
        omega

/-! ### By one reduction over pairs -/

/-- A pair `(value, position)` at least as good as another: larger, or equal and no later. -/
def Better (a b : EReal × BitVec 32) : Prop := b.1 < a.1 ∨ (b.1 = a.1 ∧ a.2.toInt ≤ b.2.toInt)

/-- A pair is at least as good as itself. -/
theorem Better.refl (a : EReal × BitVec 32) : Better a a := Or.inr ⟨rfl, le_refl _⟩

/-- Being at least as good passes along a chain. -/
theorem Better.trans {a b c : EReal × BitVec 32} (h : Better a b) (h' : Better b c) : Better a c := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

/-- Folding a choice of the better of two pairs gives one of the pairs met, at least as good as all of them. -/
theorem foldl_better (f : EReal × BitVec 32 → EReal × BitVec 32 → EReal × BitVec 32)
    (hf : ∀ a b, (f a b = a ∨ f a b = b) ∧ Better (f a b) a ∧ Better (f a b) b) (l : List (EReal × BitVec 32)) (z : EReal × BitVec 32) :
    (l.foldl f z = z ∨ l.foldl f z ∈ l) ∧ Better (l.foldl f z) z ∧ ∀ p ∈ l, Better (l.foldl f z) p := by
  induction l generalizing z with
  | nil => exact ⟨Or.inl rfl, Better.refl _, fun p h => absurd h List.not_mem_nil⟩
  | cons a l ih =>
    rw [List.foldl_cons]
    obtain ⟨h1, h2, h3⟩ := ih (f z a)
    obtain ⟨g1, g2, g3⟩ := hf z a
    refine ⟨?_, h2.trans g2, fun p hp => ?_⟩
    · rcases h1 with h1 | h1
      · rw [h1]
        rcases g1 with g | g <;> rw [g]
        · exact Or.inl rfl
        · exact Or.inr List.mem_cons_self
      · exact Or.inr (List.mem_cons_of_mem _ h1)
    · rcases List.mem_cons.1 hp with rfl | hp
      · exact h2.trans g3
      · exact h3 p hp

/-- Such a fold over the pairs of an eight-entry row, from the least value at position zero, ends at the first largest
    position. -/
theorem foldl_first (f : EReal × BitVec 32 → EReal × BitVec 32 → EReal × BitVec 32)
    (hf : ∀ a b, (f a b = a ∨ f a b = b) ∧ Better (f a b) a ∧ Better (f a b) b) (x : Fin 8 → EReal) (l : List (EReal × BitVec 32))
    (hl : ∀ p, p ∈ l ↔ ∃ d : Fin 8, p = (x d, BitVec.ofNat 32 d.val)) :
    (l.foldl f (⊥, 0#32)).2 = BitVec.ofNat 32 (first x).val := by
  obtain ⟨h1, -, h3⟩ := foldl_better f hf l (⊥, 0#32)
  generalize l.foldl f (⊥, 0#32) = q at h1 h3
  have hc : ∃ c : Fin 8, q = (x c, BitVec.ofNat 32 c.val) := by
    rcases h1 with h1 | h1
    · refine ⟨0, ?_⟩
      rcases h3 _ ((hl _).2 ⟨0, rfl⟩) with a | ⟨a, _⟩
      · rw [h1] at a; exact absurd a not_lt_bot
      · rw [h1] at a ⊢; exact Prod.ext a.symm rfl
    · exact (hl q).1 h1
  obtain ⟨c, rfl⟩ := hc
  have : first x = c := first_eq fun d => by
    rcases h3 _ ((hl _).2 ⟨d, rfl⟩) with a | ⟨a, b⟩
    · exact Or.inl a
    · refine Or.inr ⟨a, ?_⟩
      simp only [toInt_small _ (show c.val < 2 ^ 31 by omega), toInt_small _ (show d.val < 2 ^ 31 by omega)] at b
      exact Fin.le_def.2 (by omega)
  rw [this]

end Cert.Proof.Choice

end
-- ==== Proof.Block.lean ====
module

public import proofs.«01_k».proof.Proof.Gen.KernelIdeal.Skeleton
public import proofs.«01_k».proof.Proof.Choice
public import Idealize.ShloMosaic.Lib.Pointwise

@[expose] public section

set_option maxRecDepth 16384

noncomputable section

/-! What the kernel's body computes for one plane: 512 tokens against the 72 columns of the joined weights. -/

namespace Cert.Proof.Block

open Idealize.ShloMosaic Cert.KernelIdeal Cert.KernelIdeal.Gen Cert.KernelIdeal.Facts₀ Cert.Proof.Choice

/-- A choice by the word of a decided proposition is the choice by the proposition. -/
theorem select_decide {α : Type} (p : Prop) [Decidable p] (a b : α) : Scalar.select (BitVec.ofBool (decide p)) a b = if p then a else b := by
  by_cases h : p <;> simp [h, Scalar.select]

/-- One token against one column of the joined weights. -/
def dot (x : FVec Ideal S512x4096 .f32) (w : FVec Ideal S4096x72 .bf16) (r : Fin 512) (j : Fin 72) : EReal :=
  ∑ k : Fin 4096, x (ix2 r k) * w (ix2 k j)

/-- A token's eight cluster logits. -/
def clusters (x : FVec Ideal S512x4096 .f32) (w : FVec Ideal S4096x72 .bf16) (r : Fin 512) (d : Fin 8) : EReal :=
  dot x w r ⟨64 + d.val, by omega⟩

/-- The block's product. -/
theorem pay8_apply (x : FVec Ideal S512x4096 .f32) (w : FVec Ideal S4096x72 .bf16) (r : Fin 512) (j : Fin 72) :
    k0_pay8 w x (ix2 r j) = dot x w r j := by
  pointwise [k0_pay8, dot]

/-- Whether a column is one of the cluster columns, as the kernel asks it. -/
theorem sge_64 (k : Fin 72) : IntOp.cmpi .sge (BitVec.ofNat 32 k.val) 64#32 = BitVec.ofBool (decide (64 ≤ k.val)) := by
  revert k; decide

/-- The kernel's pick for a token whose largest cluster logit is above minus infinity: its first largest cluster logit. -/
theorem pay9_apply (x : FVec Ideal S512x4096 .f32) (w : FVec Ideal S4096x72 .bf16) (r : Fin 512)
    (hfin : ⊥ < clusters x w r (first (clusters x w r))) :
    k0_pay9 w x (ix1 r) = BitVec.ofNat 32 (first (clusters x w r)).val := by
  pointwise [k0_pay9, pay8_apply]
  simp only [sge_64, select_decide, bottom]
  rw [masked_first (dot x w r) (clusters x w r) (fun _ => rfl) hfin _ rfl]
  generalize first (clusters x w r) = c
  revert c
  decide

/-- The kernel's floored quotient of a column by eight is its quotient by eight. -/
theorem quotient_apply (r : Fin 512) (e : Fin 64) :
    select (k0_pay6 : IVec S512x64 1) (subi (k0_pay5 : IVec S512x64 32) (broadcast S512x64 1#32)) (k0_pay5 : IVec S512x64 32) (ix2 r e)
      = BitVec.ofNat 32 (e.val / 8) := by
  pointwise [k0_pay5, k0_pay6]
  revert e
  decide

/-- Comparing the words of two small numbers compares the numbers. -/
theorem eq_ofNat (a c : ℕ) (ha : a < 8) (hc : c < 8) :
    IntOp.cmpi .eq (BitVec.ofNat 32 a) (BitVec.ofNat 32 c) = BitVec.ofBool (decide (a = c)) := by
  have : ∀ a c : Fin 8, IntOp.cmpi .eq (BitVec.ofNat 32 a.val) (BitVec.ofNat 32 c.val) = BitVec.ofBool (decide (a.val = c.val)) := by decide
  exact this ⟨a, ha⟩ ⟨c, hc⟩

/-- The first plane's stored block. -/
theorem pay7_apply (x : FVec Ideal S512x4096 .f32) (w : FVec Ideal S4096x72 .bf16) (a : Fin 1) (r : Fin 512) (e : Fin 64)
    (hfin : ⊥ < clusters x w r (first (clusters x w r))) :
    k0_pay7 (k0_pay8 w x) (k0_pay9 w x) k0_pay5 k0_pay6 (ix3 a r e) =
      if e.val / 8 = (first (clusters x w r)).val then dot x w r ⟨e.val, by omega⟩ else Ideal.ofBits .f32 0xFF7FFFFF#32 := by
  unfold k0_pay7
  have := quotient_apply r e
  generalize select (k0_pay6 : IVec S512x64 1) (subi (k0_pay5 : IVec S512x64 32) (broadcast S512x64 1#32)) (k0_pay5 : IVec S512x64 32) = q at this ⊢
  pointwise [pay8_apply, this]
  rw [pay9_apply x w r hfin, eq_ofNat _ _ (by omega) (first (clusters x w r)).isLt, select_decide]

/-- Both planes are computed alike. -/
theorem pay1_eq (x : FVec Ideal S512x4096 .f32) (w : FVec Ideal S4096x72 .bf16) :
    k0_pay1 (k0_pay8 w x) (k0_pay9 w x) (iota .tc S512x64 32 [1] Facts₀.iota_S512x64_d1_w32) 8#32 k0_pay10 k0_pay11 (Scalar.cmpi .sgt 8#32 0#32)
      = k0_pay7 (k0_pay8 w x) (k0_pay9 w x) k0_pay5 k0_pay6 := rfl

/-- The product over the weights as loaded, the other plane's form, is the block's product. -/
theorem pay3_eq (x : FVec Ideal S512x4096 .f32) (w : FVec Ideal S4096x72 .bf16) : k0_pay3 (F := Ideal) w x = k0_pay8 (F := Ideal) (k0_pay2 w) x := rfl

/-- The pick over the weights as loaded, the other plane's form, is the block's pick. -/
theorem pay4_eq (x : FVec Ideal S512x4096 .f32) (w : FVec Ideal S4096x72 .bf16) : k0_pay4 (F := Ideal) w x = k0_pay9 (F := Ideal) (k0_pay2 w) x := rfl

end Cert.Proof.Block

end
-- ==== Proof.Array.lean ====
module

public import proofs.«01_k».proof.Proof.Gen.KernelIdeal.Frame
public import proofs.«01_k».proof.Proof.Block
public import Idealize.ShloMosaic.Lib.Pipeline.Value

@[expose] public section

set_option maxRecDepth 16384

noncomputable section

/-! What the kernel's result array holds: sixteen grid points each write 512 tokens of both planes. -/

namespace Cert.Proof.Block

open Idealize.ShloMosaic Idealize.ShloMosaic.TcCoe Cert.KernelIdeal Cert.KernelIdeal.Gen Cert.Proof.Choice
open Idealize.ShloMosaic.Pipeline (Dat)

/-- One token against one column of the joined weights. -/
def col (X : FVec Ideal S16384x4096 .f32) (W : FVec Ideal S4096x72 .bf16) (t : Fin 16384) (j : Fin 72) : EReal :=
  ∑ k : Fin 4096, X (ix2 t k) * W (ix2 k j)

/-- A token's eight cluster logits: the last eight columns. -/
def logits (X : FVec Ideal S16384x4096 .f32) (W : FVec Ideal S4096x72 .bf16) (t : Fin 16384) (d : Fin 8) : EReal :=
  col X W t ⟨64 + d.val, by omega⟩

/-- What the kernel computes for a token and an expert: the expert's logit if the token chose its cluster, else the most
    negative finite number. -/
def cell (X : FVec Ideal S16384x4096 .f32) (W : FVec Ideal S4096x72 .bf16) (t : Fin 16384) (e : Fin 64) : EReal :=
  if e.val / 8 = (first (logits X W t)).val then col X W t ⟨e.val, by omega⟩ else Ideal.ofBits .f32 0xFF7FFFFF#32

/-- The result array: plane `p`, row `r` is token `8192 p + r`. -/
def whole (X : FVec Ideal S16384x4096 .f32) (W : FVec Ideal S4096x72 .bf16) : FVec Ideal S2x8192x64 .f32 := fun i =>
  have h0 : (i 0).val < 2 := (i 0).isLt
  have h1 : (i 1).val < 8192 := (i 1).isLt
  cell X W ⟨(i 0).val * 8192 + (i 1).val, by omega⟩ (i 2)

/-- Every token's largest cluster logit is above minus infinity. -/
def Tops (X : FVec Ideal S16384x4096 .f32) (W : FVec Ideal S4096x72 .bf16) : Prop := ∀ t, ⊥ < logits X W t (first (logits X W t))

/-- A block of 512 tokens from token `b` on computes those tokens' cells. -/
theorem plane_apply (X : FVec Ideal S16384x4096 .f32) (W : FVec Ideal S4096x72 .bf16) (hX : Tops X W) (x : FVec Ideal S512x4096 .f32)
    (t : Fin 16384) (a : Fin 1) (r : Fin 512) (e : Fin 64) (hx : ∀ k, x (ix2 r k) = X (ix2 t k)) :
    k0_pay7 (k0_pay8 W x) (k0_pay9 W x) k0_pay5 k0_pay6 (ix3 a r e) = cell X W t e := by
  have hd : dot x W r = col X W t := funext fun j => Finset.sum_congr rfl fun k _ => by rw [hx]
  have hc : clusters x W r = logits X W t := funext fun d => by rw [clusters, hd]; rfl
  rw [pay7_apply x W a r e (by rw [hc]; exact hX t), hc, hd]
  rfl

/-- Equal positions hold equal cells. -/
theorem cell_congr (X : FVec Ideal S16384x4096 .f32) (W : FVec Ideal S4096x72 .bf16) {t t' : Fin 16384} {e e' : Fin 64}
    (h : t.val = t'.val) (h' : e.val = e'.val) : cell X W t e = cell X W t' e' := by rw [Fin.ext h, Fin.ext h']

/-- The two-axis zero offset, in the form the printed reads use. -/
theorem zero2 : (![0, 0] : Fin 2 → Nat) = fun _ => 0 := funext fun a => by fin_cases a <;> rfl

/-- The staged output block after the body, at an index: plane `p`, row `r` is the cell of its token. -/
theorem out_apply (X : FVec Ideal S16384x4096 .f32) (W : FVec Ideal S4096x72 .bf16) (hX : Tops X W) (x0 x1 : FVec Ideal S512x4096 .f32)
    (n : ℕ) (hn : n < 16) (h0 : ∀ (r : Fin 512) k, x0 (ix2 r k) = X (ix2 ⟨n * 512 + r.val, by omega⟩ k))
    (h1 : ∀ (r : Fin 512) k, x1 (ix2 r k) = X (ix2 ⟨(n + 16) * 512 + r.val, by omega⟩ k)) (p : Fin 2) (r : Fin 512) (e : Fin 64) :
    out0_3 (F := Ideal) x0 x1 W (ix3 p r e) = cell X W ⟨p.val * 8192 + (n * 512 + r.val), by omega⟩ e := by
  unfold out0_3 k0_pay12
  rw [View.ld_unit_zero zero2, View.ld_unit_zero zero2, View.ld_unit_zero zero2, pay3_eq, pay4_eq]
  have e2 : k0_pay2 (F := Ideal) W = W := by
    funext i
    pointwise [k0_pay2]
  rw [e2, pay1_eq]
  let G : S2x512x64.Idx → EReal := fun i =>
    have h0 : (i 0).val < 2 := (i 0).isLt
    have h1 : (i 1).val < 512 := (i 1).isLt
    cell X W ⟨(i 0).val * 8192 + (n * 512 + (i 1).val), by omega⟩ (i 2)
  refine View.canon_apply_of_pieces (Val := Elt Ideal) (e := .f32) G _ (fun q hq y => ?_) (ix3 p r e) (cover0_3 _ _ _)
  rcases List.mem_cons.1 hq with rfl | hq
  · obtain ⟨a, b, f, rfl⟩ : ∃ (a : Fin 1) (b : Fin 512) (f : Fin 64), y = ix3 a b f := ⟨y 0, y 1, y 2, eq_ix3 y⟩
    refine (plane_apply X W hX x1 _ a b f (h1 b)).trans (cell_congr X W ?_ ?_)
    · show (n + 16) * 512 + b.val = (1 + 1 * a.val) * 8192 + (n * 512 + (0 + 1 * b.val))
      omega
    · show f.val = 0 + 1 * f.val
      omega
  · obtain rfl := List.mem_singleton.1 hq
    obtain ⟨a, b, f, rfl⟩ : ∃ (a : Fin 1) (b : Fin 512) (f : Fin 64), y = ix3 a b f := ⟨y 0, y 1, y 2, eq_ix3 y⟩
    refine (plane_apply X W hX x0 _ a b f (h0 b)).trans (cell_congr X W ?_ ?_)
    · show n * 512 + b.val = (0 + 1 * a.val) * 8192 + (n * 512 + (0 + 1 * b.val))
      omega
    · show f.val = 0 + 1 * f.val
      omega

variable (m : (ℓ : Loc nD τ sig) → Buf (Elt Ideal) ℓ)

/-- The tokens, as the launch finds them. -/
abbrev toks (c : Dev nD) : FVec Ideal S16384x4096 .f32 := V m c main_v0

/-- The joined weights, as the launch finds them. -/
abbrev wts (c : Dev nD) : FVec Ideal S4096x72 .bf16 := V m c main_v4

/-- The first input window walks the token tiles of the first half. -/
theorem index_0 : ∀ t : Fin cfg0.N, win0_0.index t (0 : Fin 2) = t.val ∧ win0_0.index t (1 : Fin 2) = 0 :=
  (by decide +kernel : ∀ t : Fin grid0.N, _)
/-- The second input window walks the token tiles of the second half. -/
theorem index_1 : ∀ t : Fin cfg0.N, win0_1.index t (0 : Fin 2) = t.val + 16 ∧ win0_1.index t (1 : Fin 2) = 0 :=
  (by decide +kernel : ∀ t : Fin grid0.N, _)
/-- The weight window stays at the whole array. -/
theorem index_2 : ∀ t : Fin cfg0.N, win0_2.index t (0 : Fin 2) = 0 ∧ win0_2.index t (1 : Fin 2) = 0 :=
  (by decide +kernel : ∀ t : Fin grid0.N, _)
/-- The output window covers both halves and walks the tiles inside a half. -/
theorem index_3 : ∀ t : Fin cfg0.N, win0_3.index t (0 : Fin 3) = 0 ∧ win0_3.index t (1 : Fin 3) = t.val ∧ win0_3.index t (2 : Fin 3) = 0 :=
  (by decide +kernel : ∀ t : Fin grid0.N, _)

/-- There are sixteen grid points. -/
theorem point_lt (t : Fin cfg0.N) : t.val < 16 := N_0 ▸ t.isLt

/-- The first input block holds the tokens of tile `t` of the first half. -/
theorem blk_0 (c : Dev nD) (t : Fin cfg0.N) (r : Fin 512) (k : Fin 4096) :
    iblk m c 0 t (ix2 r k) = toks m c (ix2 ⟨t.val * 512 + r.val, by have := point_lt t; omega⟩ k) := by
  obtain ⟨e0, e1⟩ := index_0 t
  show toks m c (((cfg0.win 0).blk t).view.emb (ix2 r k)) = _
  congr 1
  funext a; apply Fin.ext
  match a with
  | ⟨0, _⟩ => show win0_0.index t (0 : Fin 2) * 512 + 1 * r.val = t.val * 512 + r.val; omega
  | ⟨1, _⟩ => show win0_0.index t (1 : Fin 2) * 4096 + 1 * k.val = k.val; omega

/-- The second input block holds the tokens of tile `t` of the second half. -/
theorem blk_1 (c : Dev nD) (t : Fin cfg0.N) (r : Fin 512) (k : Fin 4096) :
    iblk m c 1 t (ix2 r k) = toks m c (ix2 ⟨(t.val + 16) * 512 + r.val, by have := point_lt t; omega⟩ k) := by
  obtain ⟨e0, e1⟩ := index_1 t
  show toks m c (((cfg0.win 1).blk t).view.emb (ix2 r k)) = _
  congr 1
  funext a; apply Fin.ext
  match a with
  | ⟨0, _⟩ => show win0_1.index t (0 : Fin 2) * 512 + 1 * r.val = (t.val + 16) * 512 + r.val; omega
  | ⟨1, _⟩ => show win0_1.index t (1 : Fin 2) * 4096 + 1 * k.val = k.val; omega

/-- The third input block is the whole weight array. -/
theorem blk_2 (c : Dev nD) (t : Fin cfg0.N) : iblk m c 2 t = wts m c := by
  obtain ⟨e0, e1⟩ := index_2 t
  funext j
  show wts m c (((cfg0.win 2).blk t).view.emb j) = _
  congr 1
  funext a; apply Fin.ext
  match a with
  | ⟨0, _⟩ => show win0_2.index t (0 : Fin 2) * 4096 + 1 * (j 0).val = (j 0).val; omega
  | ⟨1, _⟩ => show win0_2.index t (1 : Fin 2) * 72 + 1 * (j 1).val = (j 1).val; omega

/-- Where an entry of the output block lies in the output array. -/
theorem emb_3 (t : Fin cfg0.N) (p : Fin 2) (r : Fin 512) (e : Fin 64) :
    ((cfg0.win 3).blk t).view.emb (ix3 p r e) = ix3 p (⟨t.val * 512 + r.val, by have := point_lt t; omega⟩ : Fin 8192) e := by
  obtain ⟨e0, e1, e2⟩ := index_3 t
  funext a; apply Fin.ext
  match a with
  | ⟨0, _⟩ => show win0_3.index t (0 : Fin 3) * 2 + 1 * p.val = p.val; omega
  | ⟨1, _⟩ => show win0_3.index t (1 : Fin 3) * 512 + 1 * r.val = t.val * 512 + r.val; omega
  | ⟨2, _⟩ => show win0_3.index t (2 : Fin 3) * 64 + 1 * e.val = e.val; omega

/-- What a grid point writes back is its block of the whole result. -/
theorem flushed_eq (c : Dev nD) (hX : Tops (toks m c) (wts m c)) (t : Fin cfg0.N) :
    (dats m 0 c).flushed 3 t = ((cfg0.win 3).blk t).view.read (Elt Ideal) (whole (toks m c) (wts m c)) := by
  show (cfg0.win 3).cut (grid0.coords t) ((dats m 0 c).after 3 t) = _
  rw [after0_3, blk_2]
  funext j
  obtain ⟨p, r, e, rfl⟩ : ∃ (p : Fin 2) (r : Fin 512) (e : Fin 64), j = ix3 p r e := ⟨j 0, j 1, j 2, eq_ix3 j⟩
  refine (out_apply (toks m c) (wts m c) hX (iblk m c 0 t) (iblk m c 1 t) t.val (point_lt t) (blk_0 m c t) (blk_1 m c t) p r e).trans ?_
  show _ = whole (toks m c) (wts m c) (((cfg0.win 3).blk t).view.emb (ix3 p r e))
  rw [emb_3]
  rfl

/-- The point that writes a row. -/
theorem row_point (r : Fin 8192) : r.val / 512 < cfg0.N := by
  have : cfg0.N = 16 := N_0
  omega

/-- Every index of the result lies in some point's block. -/
theorem cover (i : S2x8192x64.Idx) : ∃ t : Fin cfg0.N, (cfg0.win 3).flush t = true ∧ i ∈ ((cfg0.win 3).blk t).view.set := by
  obtain ⟨p, r, e, rfl⟩ : ∃ (p : Fin 2) (r : Fin 8192) (e : Fin 64), i = ix3 p r e := ⟨i 0, i 1, i 2, eq_ix3 i⟩
  refine ⟨⟨r.val / 512, row_point r⟩, flush0_3 _, ?_⟩
  have h := ((cfg0.win 3).blk ⟨r.val / 512, row_point r⟩).view.emb_mem_set (ix3 p (⟨r.val % 512, by omega⟩ : Fin 512) e)
  rw [emb_3] at h
  have er : (⟨r.val / 512 * 512 + r.val % 512, by omega⟩ : Fin 8192) = r := Fin.ext (by show r.val / 512 * 512 + r.val % 512 = r.val; omega)
  simp only [er] at h
  exact h

/-- So the result array ends holding every cell. -/
theorem final_array (c : Dev nD) (hX : Tops (toks m c) (wts m c)) :
    (dats m 0 c).arrAt 3 cfg0.N = whole (toks m c) (wts m c) :=
  (dats m 0 c).arrAt_eq_of_cover 3 (whole (toks m c) (wts m c)) (fun t _ => flushed_eq m c hX t) cover

end Cert.Proof.Block

end
-- ==== Proof.Run.lean ====
module

public import proofs.«01_k».proof.Proof.Array
public import Idealize.ShloMosaic.Lib.Quiescent
public import Idealize.ShloMosaic.Lib.StableHlo.RunRead

@[expose] public section

set_option maxRecDepth 16384

noncomputable section

/-! The kernel program's run: its result is the reshaped array of cells, its arguments end unchanged. -/

namespace Cert.Proof.Block

open Idealize.ShloMosaic Idealize.ShloMosaic.TcCoe Idealize.SL.Sem Cert.KernelIdeal Cert.KernelIdeal.Gen Cert.Proof.Choice

variable (m : (ℓ : Loc nD τ sig) → Buf (Elt Ideal) ℓ) (ρ : Dev nD → PrngReg)

/-- The tokens the launch finds: the first argument's rows. -/
theorem toks_eq (c : Dev nD) : toks m c =
    shapeCast S16384x4096 (m ((c : Thread nD τ).loc main_arg0)) Facts₀.shapeCasts_S4x4096x4096_S16384x4096 := by
  unfold toks V V0
  after_reads_simp
  rfl

/-- The joined weights the launch finds: the expert rows over the cluster rows, transposed. -/
theorem wts_eq (c : Dev nD) : wts m c =
    truncf .bf16 (transpose S4096x72 [1, 0]
      (concatenate S72x4096 0 [⟨S64x4096, shapeCast S64x4096 (m ((c : Thread nD τ).loc main_arg2)) Facts₀.shapeCasts_S8x8x4096_S64x4096⟩,
        ⟨S8x4096, (m ((c : Thread nD τ).loc main_arg1) : S8x4096.Idx → EReal)⟩] Facts₀.concatenates_S64x4096_S8x4096_S72x4096_d0)
      Facts₀.transposes_S72x4096_S4096x72_1_0) Facts₀.bitsLt_bf16_f32 := by
  unfold wts V V0
  after_reads_simp
  rfl

/-- The result the program ends with. -/
def result (X : FVec Ideal S16384x4096 .f32) (W : FVec Ideal S4096x72 .bf16) : FVec Ideal S4x4096x64 .f32 :=
  shapeCast S4x4096x64 (whole X W) Facts₀.shapeCasts_S2x8192x64_S4x4096x64

/-- The host line after the launch reshapes the launch's array. -/
theorem tail_eq (c : Dev nD) (hX : Tops (toks m c) (wts m c)) :
    Pipeline.afterTail₀ cfgs (dats m) 0 (V0 m) [hostOps1] c main_v6 = result (toks m c) (wts m c) := by
  have h := ((dats m 0 c).withArrays_arrAt sharedIn0 (V0 m c) (A_eq m c) 3).trans (final_array m c hX)
  unfold result
  generalize whole (toks m c) (wts m c) = Y at h ⊢
  unfold Pipeline.afterTail₀
  after_reads_simp
  rw [← h]
  rfl

/-- The kernel program's run. -/
theorem run (hX : ∀ c, Tops (toks m c) (wts m c)) :
    θ_run (defs (F := Ideal)) (onTc (τ := τ) (main (F := Ideal))) ⟨m, fun _ => 0, ρ⟩ fun r => ∀ c : Dev nD,
      r.2.mem ((c.tc : Thread nD τ).loc main_v6) = result (toks m c) (wts m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
      ((h c).2 main_v6 (Pipeline.mem_restRefs_of main_v6 (by decide) (by decide))).trans (tail_eq m c (hX c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Proof.Block

end
-- ==== Proof.RefTerms.lean ====
module

public import proofs.«01_k».proof.Proof.Gen.ReferenceIdeal
public import Idealize.ShloMosaic.PureOps.Ideal.Laws

@[expose] public section

set_option maxRecDepth 16384

noncomputable section

/-! The reference's arithmetic, stage by stage, as functions of its three arguments. -/

namespace Cert.Proof.Ref

open Idealize.ShloMosaic Cert.ReferenceIdeal Cert.ReferenceIdeal.Facts₀

/-- The tokens: the hidden states with batch and sequence joined. -/
def tokens (h : FVec Ideal S4x4096x4096 .f32) : FVec Ideal S16384x4096 .f32 :=
  shapeCast S16384x4096 h shapeCasts_S4x4096x4096_S16384x4096

/-- Every token against every row of an 8-row matrix. -/
def against (x : FVec Ideal S16384x4096 .f32) (w : FVec Ideal S8x4096 .f32) : FVec Ideal S16384x8 .f32 :=
  Host.dotGeneral dot_S16384x4096_S4096x8_S16384x8_1_0_0_1_n_n none x (transpose S4096x8 [1, 0] w transposes_S8x4096_S4096x8_1_0)

/-- One number per token, repeated over the eight clusters. -/
def spread (v : FVec Ideal S16384 .f32) : FVec Ideal S16384x8 .f32 :=
  broadcastInDim S16384x8 ![0, 1] bcast_S16384x1_S16384x8_0_1 (broadcastInDim S16384x1 ![0] bcast_S16384_S16384x1_0 v)

/-- Each token's largest cluster logit. -/
def top (x : FVec Ideal S16384x8 .f32) : FVec Ideal S16384 .f32 :=
  maximumf (broadcastInDim S16384 ![] bcast_S_S16384 (constant S_ .f32 0xFF800000#32))
    (Host.reduce FloatOps.maximumf x (constant S_ .f32 0xFF800000#32) reducesTo_S16384x8_S16384_d1 h_S_)

/-- The exponentials of the logits, each shifted by its token's largest. -/
def shiftedExp (x : FVec Ideal S16384x8 .f32) : FVec Ideal S16384x8 .f32 := Host.exp (subf x (spread (top x)))

/-- The softmax of the cluster logits. -/
def probs (x : FVec Ideal S16384x8 .f32) : FVec Ideal S16384x8 .f32 :=
  Host.divf (shiftedExp x) (spread (Host.reduceAdd (shiftedExp x) (constant S_ .f32 0x00000000#32) reducesTo_S16384x8_S16384_d1 h_S_))

/-- The chosen cluster: the position of the largest entry of each row. -/
def pick (p : FVec Ideal S16384x8 .f32) : IVec S16384 32 := fun j =>
  (Host.argReduce reducer_argmax_f32_i32 p (iotaInDim S16384x8 32 1) (constant S_ .f32 0xFF800000#32) (constantI S_ 32 0#32)
    reducesTo_S16384x8_S16384_d1 h_S_ j).2

/-- Each of the eight clusters is a slice of the expert weights. -/
theorem slices_cluster (n : ℕ) (h : n < 8) : S8x8x4096.Slices ![n, 0, 0] S1x8x4096 := by
  have := (by decide : ∀ k : Fin 8, S8x8x4096.Slices ![k.val, 0, 0] S1x8x4096)
  exact this ⟨n, h⟩

/-- Cluster `n`'s rows of the expert weights. -/
def rows (we : FVec Ideal S8x8x4096 .f32) (n : ℕ) (h : n < 8) : FVec Ideal S8x4096 .f32 :=
  shapeCast S8x4096 (extractStridedSlice S1x8x4096 ![n, 0, 0] we (slices_cluster n h)) shapeCasts_S1x8x4096_S8x4096

/-- The values `v` where the chosen cluster is `n`, and the most negative finite number elsewhere. -/
def kept (k : IVec S16384 32) (n : ℕ) (v : FVec Ideal S16384x8 .f32) : FVec Ideal S16384x8 .f32 :=
  select
    (broadcastInDim S16384x8 ![0, 1] bcast_S16384x1_S16384x8_0_1 (broadcastInDim S16384x1 ![0] bcast_S16384_S16384x1_0
      (cmpi .eq k (broadcastInDim S16384 ![] bcast_S_S16384 (constantI S_ 32 (BitVec.ofNat 32 n))))))
    v (broadcastInDim S16384x8 ![] bcast_S_S16384x8 (constant S_ .f32 0xFF7FFFFF#32))

/-- The output table after its first `n` clusters were written. -/
def table (k : IVec S16384 32) (x : FVec Ideal S16384x4096 .f32) (we : FVec Ideal S8x8x4096 .f32) :
    (n : ℕ) → n ≤ 8 → FVec Ideal S16384x64 .f32
  | 0, _ => broadcastInDim S16384x64 ![] bcast_S_S16384x64 (constant S_ .f32 0xFF7FFFFF#32)
  | n + 1, h => Host.scatter scatter_S16384x64_S1_S16384x8_01_n_1_0 (fun _ b => b) (table k x we n (by omega))
      (broadcastInDim S1 ![] bcast_S_S1 (constantI S_ 32 (BitVec.ofNat 32 (8 * n)))) (kept k n (against x (rows we n h)))

/-- The whole reference. -/
def value (h : FVec Ideal S4x4096x4096 .f32) (wc : FVec Ideal S8x4096 .f32) (we : FVec Ideal S8x8x4096 .f32) : FVec Ideal S4x4096x64 .f32 :=
  shapeCast S4x4096x64 (table (pick (probs (against (tokens h) wc))) (tokens h) we 8 (le_refl 8)) shapeCasts_S16384x64_S4x4096x64

end Cert.Proof.Ref

end
-- ==== Proof.RefValue.lean ====
module

public import proofs.«01_k».proof.Proof.RefTerms
public import proofs.«01_k».proof.Proof.Choice
public import Idealize.ShloMosaic.Lib.Pointwise
public import Idealize.ShloMosaic.Lib.Routing.OpsPair
public import Idealize.ShloMosaic.Lib.Routing.OpsSet

@[expose] public section

set_option maxRecDepth 16384

noncomputable section

/-! The reference's stages, read at an index. -/

namespace Cert.Proof.Ref

open Idealize.ShloMosaic Cert.ReferenceIdeal Cert.ReferenceIdeal.Facts₀ Cert.Proof.Choice

/-- A token's product with a row. -/
theorem against_apply (x : FVec Ideal S16384x4096 .f32) (w : FVec Ideal S8x4096 .f32) (t : Fin 16384) (d : Fin 8) :
    against x w (ix2 t d) = ∑ k : Fin 4096, x (ix2 t k) * w (ix2 d k) := by
  pointwise [against]

/-- An entry of cluster `n`'s rows is the entry of the expert weights. -/
theorem rows_apply (we : FVec Ideal S8x8x4096 .f32) (n : ℕ) (h : n < 8) (d : Fin 8) (k : Fin 4096) :
    rows we n h (ix2 d k) = we (ix3 (⟨n, h⟩ : Fin 8) d k) := by
  pointwise [rows]

/-- A number repeated over the clusters reads as itself. -/
theorem spread_apply (v : FVec Ideal S16384 .f32) (t : Fin 16384) (d : Fin 8) : spread v (ix2 t d) = v (ix1 t) := by
  pointwise [spread]

/-- An entry kept for cluster `n`: the value if `n` was chosen, the most negative finite number if not. -/
theorem kept_apply (p : IVec S16384 32) (n : ℕ) (v : FVec Ideal S16384x8 .f32) (t : Fin 16384) (d : Fin 8) :
    kept p n v (ix2 t d) = if p (ix1 t) = BitVec.ofNat 32 n then v (ix2 t d) else Ideal.ofBits .f32 0xFF7FFFFF#32 := by
  pointwise [kept]
  by_cases h : p (ix1 t) = BitVec.ofNat 32 n
  · simp [h, IntOp.cmpi, Scalar.select]
  · simp [h, IntOp.cmpi, Scalar.select, beq_eq_false_iff_ne.2 h]

/-- Where an eight-column update lands: its own row, at its column after the start. -/
theorem lands (idx : IVec S1 32) (a : ℕ) (ha : (idx (ix1 0)).toInt = (a : ℤ)) (r t : Fin 16384) (c : Fin 8) (e : Fin 64) :
    scatter_S16384x64_S1_S16384x8_01_n_1_0.resultIdx? (ix2 r c) idx = some (ix2 t e) ↔ r = t ∧ a + c.val = e.val := by
  have hm : (1 : Fin 2) ∈ scatter_S16384x64_S1_S16384x8_01_n_1_0.scatterDimsToOperandDims := List.mem_singleton.2 rfl
  have w0 : scatter_S16384x64_S1_S16384x8_01_n_1_0.window (ix2 r c) 0 = r.val := rfl
  have w1 : scatter_S16384x64_S1_S16384x8_01_n_1_0.window (ix2 r c) 1 = c.val := rfl
  have s0 : scatter_S16384x64_S1_S16384x8_01_n_1_0.start (ix2 r c) idx 0 = 0 := rfl
  have s1 : scatter_S16384x64_S1_S16384x8_01_n_1_0.start (ix2 r c) idx 1 = a := by
    unfold ScatterDims.start
    rw [dif_pos hm, ← ha]
    congr 2
    funext b
    match b with
    | ⟨0, _⟩ => exact Subsingleton.elim (α := Fin 1) _ _
  refine (Routing.resultIdx?_ix2 scatter_S16384x64_S1_S16384x8_01_n_1_0 (ix2 r c) idx t e).trans ?_
  rw [Fin.ext_iff, s0, s1, w0, w1]
  omega

/-- Writing eight columns from column `a` on, read at an entry. -/
theorem scatter_apply (x : FVec Ideal S16384x64 .f32) (idx : IVec S1 32) (a : ℕ) (ha : (idx (ix1 0)).toInt = (a : ℤ))
    (u : FVec Ideal S16384x8 .f32) (t : Fin 16384) (e : Fin 64) :
    Host.scatter scatter_S16384x64_S1_S16384x8_01_n_1_0 (fun _ b => b) x idx u (ix2 t e) =
      if h : a ≤ e.val ∧ e.val - a < 8 then u (ix2 t ⟨e.val - a, h.2⟩) else x (ix2 t e) := by
  have key (k : S16384x8.Idx) (hk : scatter_S16384x64_S1_S16384x8_01_n_1_0.resultIdx? k idx = some (ix2 t e)) :
      ∃ c : Fin 8, k = ix2 t c ∧ a + c.val = e.val := by
    obtain ⟨r, c, rfl⟩ : ∃ r c, k = ix2 r c := ⟨k 0, k 1, eq_ix2 k⟩
    obtain ⟨h1, h2⟩ := (lands idx a ha r t c e).1 hk
    exact ⟨c, by rw [h1], h2⟩
  split_ifs with h
  · refine Routing.scatter_set_hit _ _ _ _ _ _ (fun k hk => ?_) (ix2 t ⟨e.val - a, h.2⟩) ((lands idx a ha t t _ e).2 ⟨rfl, ?_⟩)
    · obtain ⟨c, rfl, hc⟩ := key k hk
      have : c = ⟨e.val - a, h.2⟩ := Fin.ext (by show c.val = e.val - a; omega)
      rw [this]
    · show a + (e.val - a) = e.val
      omega
  · refine Routing.scatter_set_miss _ _ _ _ _ fun k hk => h ?_
    obtain ⟨c, -, hc⟩ := key k hk
    have := c.isLt
    omega

/-- The table after `n` clusters: an entry of the first `8 n` columns whose token chose its cluster holds the expert's
    logit, every other entry the most negative finite number. -/
theorem table_apply (k : IVec S16384 32) (x : FVec Ideal S16384x4096 .f32) (we : FVec Ideal S8x8x4096 .f32)
    (t : Fin 16384) (e : Fin 64) : ∀ (n : ℕ) (hn : n ≤ 8), table k x we n hn (ix2 t e) =
      if e.val < 8 * n ∧ k (ix1 t) = BitVec.ofNat 32 (e.val / 8) then
        ∑ j : Fin 4096, x (ix2 t j) * we (ix3 (⟨e.val / 8, by omega⟩ : Fin 8) (⟨e.val % 8, by omega⟩ : Fin 8) j)
      else Ideal.ofBits .f32 0xFF7FFFFF#32
  | 0, _ => by
    rw [if_neg (by omega)]
    pointwise [table]
  | n + 1, hn => by
    rw [table, scatter_apply _ _ (8 * n) (by
      show (BitVec.ofNat 32 (8 * n)).toInt = _
      exact toInt_small _ (by omega)), table_apply k x we t e n (by omega)]
    by_cases h : 8 * n ≤ e.val ∧ e.val - 8 * n < 8
    · have hq : e.val / 8 = n := by omega
      have hr : e.val % 8 = e.val - 8 * n := by omega
      rw [dif_pos h, kept_apply, against_apply]
      simp only [rows_apply, hq, hr]
      by_cases hk : k (ix1 t) = BitVec.ofNat 32 n
      · rw [if_pos hk, if_pos ⟨by omega, hk⟩]
      · rw [if_neg hk, if_neg fun q => hk q.2]
    · rw [dif_neg h]
      congr 1
      apply propext
      constructor <;> rintro ⟨h1, h2⟩ <;> exact ⟨by omega, h2⟩

/-- A row's largest entry. -/
theorem top_apply (x : FVec Ideal S16384x8 .f32) (t : Fin 16384) :
    top x (ix1 t) = x (ix2 t (first fun d => x (ix2 t d))) := by
  rw [← fold_max_first fun d => x (ix2 t d)]
  pointwise [top]
  rw [bottom]
  exact max_eq_right bot_le

/-- The softmax of one row. -/
theorem probs_apply (x : FVec Ideal S16384x8 .f32) (t : Fin 16384) (d : Fin 8) : probs x (ix2 t d) =
    Ideal.div (Ideal.exp (x (ix2 t d) - top x (ix1 t))) (∑ k : Fin 8, Ideal.exp (x (ix2 t k) - top x (ix1 t))) := by
  pointwise [probs, shiftedExp, spread_apply]

/-- The arg-max's step keeps one of its two operands, and that one is no worse than either. -/
theorem reducer_better (a b : EReal × BitVec 32) :
    (reducer_argmax_f32_i32 (F := Ideal) a b = a ∨ reducer_argmax_f32_i32 (F := Ideal) a b = b) ∧
      Better (reducer_argmax_f32_i32 (F := Ideal) a b) a ∧ Better (reducer_argmax_f32_i32 (F := Ideal) a b) b := by
  obtain ⟨a, i⟩ := a
  obtain ⟨b, j⟩ := b
  have e : reducer_argmax_f32_i32 (F := Ideal) (a, i) (b, j) =
      (if b < a then a else b, if b < a ∨ (a = b ∧ i.toInt < j.toInt) then i else j) := by
    unfold reducer_argmax_f32_i32
    pointwise
    rcases lt_trichotomy b a with h | h | h
    · simp [h, h.ne', IntOp.cmpi, IntOp.ori, IntOp.andi, Scalar.select]
    · subst h
      rcases em (i.toInt < j.toInt) with q | q <;>
        simp only [q, lt_irrefl, IntOp.cmpi, IntOp.ori, IntOp.andi, Scalar.select, BitVec.slt, decide_true, decide_false, if_true, if_false] <;> simp
    · simp only [h.not_gt, h.ne, IntOp.cmpi, IntOp.ori, IntOp.andi, Scalar.select, decide_false, if_false]
      simp
  rw [e]
  unfold Better
  rcases lt_trichotomy b a with h | h | h
  · simp [h]
  · subst h
    by_cases h'' : i.toInt < j.toInt
    · simp [h'', h''.le]
    · simp [h'', not_lt.1 h'']
  · simp [h, h.not_gt, h.ne]

/-- The pick is the first largest entry of its row. -/
theorem pick_apply (p : FVec Ideal S16384x8 .f32) (t : Fin 16384) :
    pick p (ix1 t) = BitVec.ofNat 32 (first fun d => p (ix2 t d)).val := by
  unfold pick
  rw [Ideal.argReduce_eq_reduce2, Host.reduce2_eq_foldl_fiber]
  have hb : (constant (F := Ideal) S_ .f32 0xFF800000#32) (Shape.Idx.first h_S_) = (⊥ : EReal) := by
    pointwise
    exact bottom
  rw [hb]
  refine foldl_first _ reducer_better _ _ fun q => ?_
  have hd (i : S16384x8.Idx) : reducesTo_S16384x8_S16384_d1.drop i = ix1 (i 0) := by
    funext b
    match b with
    | ⟨0, _⟩ => rfl
  unfold Host.argReduceFiber
  simp only [List.mem_map, List.mem_filter, List.mem_finRange, true_and, decide_eq_true_eq, hd]
  constructor
  · rintro ⟨n, hn, rfl⟩
    generalize S16384x8.rowMajor.symm n = i at hn ⊢
    obtain ⟨r, d, rfl⟩ : ∃ r d, i = ix2 r d := ⟨i 0, i 1, eq_ix2 i⟩
    obtain rfl : r = t := congrFun hn 0
    exact ⟨d, rfl⟩
  · rintro ⟨d, rfl⟩
    refine ⟨S16384x8.rowMajor (ix2 t d), ?_, ?_⟩
    · rw [Equiv.symm_apply_apply]
      rfl
    · rw [Equiv.symm_apply_apply]
      rfl

/-- A token whose largest cluster logit is finite picks its first largest cluster logit: softmax keeps the order. -/
theorem pick_probs (x : FVec Ideal S16384x8 .f32) (t : Fin 16384) (m : ℝ) (hm : x (ix2 t (first fun d => x (ix2 t d))) = (m : EReal)) :
    pick (probs x) (ix1 t) = BitVec.ofNat 32 (first fun d => x (ix2 t d)).val := by
  have e : (fun d => probs x (ix2 t d)) = fun d => Ideal.div (Ideal.exp (x (ix2 t d) - m)) (∑ k, Ideal.exp (x (ix2 t k) - m)) :=
    funext fun d => by rw [probs_apply, top_apply, hm]
  rw [pick_apply, e, first_eq (isFirst_softmax (isFirst_first fun d => x (ix2 t d)) m hm)]

/-- The reference's table, read at an entry. -/
theorem value_apply (h : FVec Ideal S4x4096x4096 .f32) (wc : FVec Ideal S8x4096 .f32) (we : FVec Ideal S8x8x4096 .f32)
    (b : Fin 4) (s : Fin 4096) (e : Fin 64) : value h wc we (ix3 b s e) =
      table (pick (probs (against (tokens h) wc))) (tokens h) we 8 (le_refl 8) (ix2 (⟨b.val * 4096 + s.val, by omega⟩ : Fin 16384) e) := by
  pointwise [value]

end Cert.Proof.Ref

end
-- ==== Proof.Equation.lean ====
module

public import proofs.«01_k».proof.Proof.Array
public import proofs.«01_k».proof.Proof.Run
public import proofs.«01_k».proof.Proof.RefValue

@[expose] public section

set_option maxRecDepth 16384

noncomputable section

/-! The kernel's result is the reference's. -/

namespace Cert.Proof.Equation

open Idealize.ShloMosaic Cert.KernelIdeal Cert.Proof.Choice Cert.Proof.Block

variable (h : FVec Ideal S4x4096x4096 .f32) (wc : FVec Ideal S8x4096 .f32) (we : FVec Ideal S8x8x4096 .f32)

/-- The joined weights: the expert rows over the cluster rows, transposed. -/
def joined : FVec Ideal S4096x72 .bf16 :=
  truncf .bf16 (transpose S4096x72 [1, 0]
    (concatenate S72x4096 0 [⟨S64x4096, shapeCast S64x4096 we Facts₀.shapeCasts_S8x8x4096_S64x4096⟩, ⟨S8x4096, wc⟩]
      Facts₀.concatenates_S64x4096_S8x4096_S72x4096_d0) Facts₀.transposes_S72x4096_S4096x72_1_0) Facts₀.bitsLt_bf16_f32

/-- The last eight columns are the cluster rows. -/
theorem joined_cluster (k : Fin 4096) (d : Fin 8) : joined wc we (ix2 k (⟨64 + d.val, by omega⟩ : Fin 72)) = wc (ix2 d k) := by
  pointwise [joined]

/-- The first sixty-four columns are the expert rows. -/
theorem joined_expert (k : Fin 4096) (e : Fin 64) : joined wc we (ix2 k (⟨e.val, by omega⟩ : Fin 72)) =
    we (ix3 (⟨e.val / 8, by omega⟩ : Fin 8) (⟨e.val % 8, by omega⟩ : Fin 8) k) := by
  pointwise [joined]

/-- A token's cluster logits are the reference's. -/
theorem logits_eq (t : Fin 16384) :
    logits (Ref.tokens h) (joined wc we) t = fun d => Ref.against (Ref.tokens h) wc (ix2 t d) := by
  funext d
  rw [Ref.against_apply]
  show ∑ k : Fin 4096, Ref.tokens h (ix2 t k) * joined wc we (ix2 k (⟨64 + d.val, by omega⟩ : Fin 72)) = _
  exact Finset.sum_congr rfl fun k _ => by rw [joined_cluster]

/-- A token's expert logits are the reference's. -/
theorem col_eq (t : Fin 16384) (e : Fin 64) : col (Ref.tokens h) (joined wc we) t ⟨e.val, by omega⟩ =
    ∑ k : Fin 4096, Ref.tokens h (ix2 t k) * we (ix3 (⟨e.val / 8, by omega⟩ : Fin 8) (⟨e.val % 8, by omega⟩ : Fin 8) k) :=
  Finset.sum_congr rfl fun k _ => by rw [joined_expert]

/-- Words of small numbers are equal exactly when the numbers are. -/
theorem word_eq_iff (a b : ℕ) (ha : a < 8) (hb : b < 8) : BitVec.ofNat 32 a = BitVec.ofNat 32 b ↔ a = b := by
  refine ⟨fun q => ?_, fun q => by rw [q]⟩
  have := congrArg BitVec.toInt q
  rw [toInt_small a (by omega), toInt_small b (by omega)] at this
  exact_mod_cast this

/-- One entry: the kernel's cell is the reference's table entry. -/
theorem cell_eq (t : Fin 16384) (e : Fin 64) (r : ℝ)
    (hr : Ref.against (Ref.tokens h) wc (ix2 t (first fun d => Ref.against (Ref.tokens h) wc (ix2 t d))) = (r : EReal)) :
    cell (Ref.tokens h) (joined wc we) t e =
      Ref.table (Ref.pick (Ref.probs (Ref.against (Ref.tokens h) wc))) (Ref.tokens h) we 8 (le_refl 8) (ix2 t e) := by
  rw [Ref.table_apply, Ref.pick_probs _ t r hr]
  unfold cell
  rw [col_eq, logits_eq]
  congr 1
  apply propext
  rw [word_eq_iff _ _ (Fin.isLt _) (by omega)]
  constructor
  · exact fun q => ⟨by omega, q.symm⟩
  · exact fun q => q.2.symm

/-- Where every token's largest cluster logit is a real number, it is above minus infinity. -/
theorem tops (hr : ∀ t, ∃ r : ℝ, Ref.against (Ref.tokens h) wc (ix2 t (first fun d => Ref.against (Ref.tokens h) wc (ix2 t d))) = (r : EReal)) :
    Tops (Ref.tokens h) (joined wc we) := fun t => by
  obtain ⟨r, e⟩ := hr t
  rw [logits_eq]
  exact (EReal.bot_lt_coe r).trans_eq e.symm

/-- The whole result: the kernel's is the reference's. -/
theorem result_eq (hr : ∀ t, ∃ r : ℝ, Ref.against (Ref.tokens h) wc (ix2 t (first fun d => Ref.against (Ref.tokens h) wc (ix2 t d))) = (r : EReal)) :
    result (Ref.tokens h) (joined wc we) = Ref.value h wc we := by
  funext i
  obtain ⟨b, s, e, rfl⟩ : ∃ (b : Fin 4) (s : Fin 4096) (e : Fin 64), i = ix3 b s e := ⟨i 0, i 1, i 2, eq_ix3 i⟩
  obtain ⟨r, q⟩ := hr ⟨b.val * 4096 + s.val, by omega⟩
  refine Eq.trans ?_ ((cell_eq h wc we _ e r q).trans (Ref.value_apply h wc we b s e).symm)
  pointwise [result, whole]
  exact cell_congr _ _ (by show b.val / 2 * 8192 + (b.val % 2 * 4096 + s.val) = b.val * 4096 + s.val; omega) rfl

end Cert.Proof.Equation

end
-- ==== Proof.Finite.lean ====
module

public import proofs.«01_k».proof.Pre_finite_top_logit
public import proofs.«01_k».proof.Proof.RefValue
public import Idealize.ShloMosaic.Lib.ReduceAll

@[expose] public section

set_option maxRecDepth 16384

noncomputable section

/-! The precondition, read: every token's largest cluster logit is a real number. -/

namespace Cert.Proof.Finite

open Idealize.ShloMosaic Cert.Proof.Choice Cert.Pre_finite_top_logit

/-- The relations between shapes that the precondition states. -/
theorem facts : Cert.Pre_finite_top_logit.Facts := by constructor; all_goals decide

/-- The word of plus infinity names the greatest extended real. -/
theorem top_word : Ideal.ofBits .f32 0x7F800000#32 = (⊤ : EReal) := by simp [Ideal.ofBits, Ideal.ieee]

/-- An extended real whose absolute value is below plus infinity is a real number. -/
theorem real_of_abs_lt {a : EReal} (h : max a (-a) < ⊤) : ∃ r : ℝ, a = (r : EReal) := by
  induction a with
  | bot => simp at h
  | top => simp at h
  | coe r => exact ⟨r, rfl⟩

/-- The word of the comparison of an absolute value with plus infinity, read. -/
theorem abs_lt_of_word {a : EReal} (q : BitVec.ofBool (decide (FloatOps.absf (F := Ideal) (φ := .f32) a < (⊤ : EReal))) = 1#1) :
    max a (-a) < ⊤ := by
  by_contra n
  rw [decide_eq_false (p := FloatOps.absf (F := Ideal) (φ := .f32) a < (⊤ : EReal)) n] at q
  exact absurd q (by decide)

/-- Where the precondition holds, a token's first largest cluster logit is a real number. -/
theorem top_real [Cert.Pre_finite_top_logit.Facts] (h : FVec Ideal S4x4096x4096 .f32) (wc : FVec Ideal S8x4096 .f32) (we : FVec Ideal S8x8x4096 .f32)
    (hp : fn (F := Ideal) h wc we = fun _ => 1#1) (t : Fin 16384) :
    ∃ r : ℝ, Ref.against (Ref.tokens h) wc (ix2 t (first fun d => Ref.against (Ref.tokens h) wc (ix2 t d))) = (r : EReal) := by
  have e := congrFun hp (Shape.Idx.first Facts.h_S_)
  dsimp only [fn] at e
  have i := Host.reduce_andi_all _ _ _ _ _ e (ix1 t)
  rw [← fold_max_first fun d => Ref.against (Ref.tokens h) wc (ix2 t d)]
  apply real_of_abs_lt
  revert i
  pointwise [Ref.against, Ref.tokens]
  rw [bottom, top_word]
  exact abs_lt_of_word

end Cert.Proof.Finite

end
-- ==== Proof.RefRun.lean ====
module

public import proofs.«01_k».proof.Defs
public import proofs.«01_k».proof.Proof.Gen.ReferenceIdeal
public import proofs.«01_k».proof.Proof.RefTerms
public import Idealize.ShloMosaic.Adequacy
public import Idealize.ShloMosaic.Init
public import Idealize.ShloMosaic.Lib.Claim
public import Idealize.ShloMosaic.Lib.Quiescent
public import Idealize.ShloMosaic.Lib.StableHlo.RunRead

@[expose] public section

set_option maxRecDepth 16384

noncomputable section

/-! The run of the reference. -/

namespace Cert.Proof.Ref

open Idealize.ShloMosaic Idealize.SL.Sem Cert.ReferenceIdeal

variable (m : (ℓ : Loc nD τ sig) → Buf (Elt Ideal) ℓ) (ρ : Dev nD → PrngReg)

/-- The reference ends with `value` of its arguments as its result, its arguments as they were, and every counter at zero. -/
theorem run : θ_run (defs (F := Ideal)) (onTc (τ := τ) (main (F := Ideal))) ⟨m, fun _ => 0, ρ⟩ fun r =>
    (∀ c : Dev nD,
      r.2.mem ((c.tc : Thread nD τ).loc main_v96) = value (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0 := by
  refine θ_run_mono (StableHlo.run_hlo _ _ (by hlo_seq) (by decide) (by decide) (by simp)
      (by intro _ h; (repeat (cases h with | head => rfl | tail _ h => ?_)); exact nomatch h) m ρ) fun r h => ⟨fun c => ⟨?_, ?_, ?_, ?_⟩, sem_eq_zero_of_no_sems (by decide) r.2⟩
  · rw [h c]
    after_reads_simp
    simp -implicitDefEqProofs only [StableHlo.TRef.toBuf, StableHlo.TRef.ofBuf, cast_eq]
    unfold value table table table table table table table table table
    rfl
  all_goals (rw [h c]; after_reads_simp)

end Cert.Proof.Ref

end
-- ==== Proof.lean ====
module

public import proofs.«01_k».proof.Defs
public import proofs.«01_k».proof.Proof.Gen.Kernel.Frame
public import proofs.«01_k».proof.Proof.Equation
public import proofs.«01_k».proof.Proof.Finite
public import proofs.«01_k».proof.Proof.RefRun

@[expose] public section

noncomputable section

/-! The claims, assembled. -/

namespace Cert.Proof

open Idealize.ShloMosaic Idealize.SL.Sem

/-- The reference ends with its arguments as they were and every counter at zero. -/
theorem reference_frame : Cert.quiescent_ReferenceIdeal := fun m g _ =>
  θ_run_mono (Ref.run m g) fun _ h => ⟨fun c => (h.1 c).2, h.2⟩

/-- Under the precondition the kernel and the reference end with equal results. -/
theorem equal_results :
    Cert.algebraic_KernelIdeal_ReferenceIdeal_pre_finite_top_logit (hPre_finite_top_logit := Finite.facts) := by
  intro m g m' g' hp hagree
  letI := Finite.facts
  have hr := fun c => Finite.top_real _ _ _ (hp c)
  have hX (c : Dev Cert.KernelIdeal.nD) : Block.Tops (Block.toks m c) (Block.wts m c) := by
    rw [Block.toks_eq, Block.wts_eq]
    exact Equation.tops _ _ _ (hr c)
  refine ⟨fun c => Block.result (Block.toks m c) (Block.wts m c), Block.run m g hX, ?_⟩
  refine θ_run_mono (Ref.run m' g') fun r h c => ⟨(h.1 c).1.trans ?_, (h.1 c).2⟩
  beta_reduce
  rw [Block.toks_eq, Block.wts_eq, (hagree c).1, (hagree c).2.1, (hagree c).2.2]
  exact (Equation.result_eq _ _ _ (hr c)).symm

/-- Every claim of this certificate. -/
theorem claim : Cert.Claim :=
  ⟨Cert.Kernel.Gen.facts, Cert.KernelIdeal.Gen.facts, Cert.ReferenceIdeal.Gen.facts, Finite.facts,
    fun m g _ => Cert.Kernel.Gen.frame m g, fun m g _ => Cert.KernelIdeal.Gen.frame m g, fun m g _ => Cert.KernelIdeal.Gen.frame m g,
    reference_frame, fun m g _ => reference_frame m g trivial, trivial, equal_results⟩

end Cert.Proof

end
